-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x24x24x768 : Shape := ⟨4, ![64, 24, 24, 768]⟩
abbrev S768x1x3x3 : Shape := ⟨4, ![768, 1, 3, 3]⟩
abbrev S9x768x1x1 : Shape := ⟨4, ![9, 768, 1, 1]⟩
abbrev S9 : Shape := ⟨1, ![9]⟩
abbrev S_ : Shape := ⟨0, ![]⟩

class Facts : Prop where
  bcast_S_S64x24x24x768 : S_.BroadcastsInDim S64x24x24x768 (![] : Fin 0 → Fin S64x24x24x768.rank)
  bcast_S_S768x1x3x3 : S_.BroadcastsInDim S768x1x3x3 (![] : Fin 0 → Fin S768x1x3x3.rank)
  bcast_S_S9x768x1x1 : S_.BroadcastsInDim S9x768x1x1 (![] : Fin 0 → Fin S9x768x1x1.rank)

variable [Facts]

def fn {F : FTy → Type} [FloatOps F] (main_arg0 : FVec F S64x24x24x768 .f32) (main_arg1 : FVec F S768x1x3x3 .f32) (main_arg2 : FVec F S9x768x1x1 .f32) (main_arg3 : FVec F S9 .f32) : IVec S64x24x24x768 1 × IVec S768x1x3x3 1 × IVec S9x768x1x1 1 :=
  let main_v0 : FVec F S64x24x24x768 .f32 := Host.absf main_arg0
  let main_cst : FVec F S_ .f32 := constant S_ .f32 0x7F800000#32
  let main_v1 : FVec F S64x24x24x768 .f32 := broadcastInDim S64x24x24x768 ![] bcast_S_S64x24x24x768 main_cst
  let main_v2 : IVec S64x24x24x768 1 := cmpf .olt main_v0 main_v1
  let main_v3 : FVec F S768x1x3x3 .f32 := Host.absf main_arg1
  let main_cst_0 : FVec F S_ .f32 := constant S_ .f32 0x7F800000#32
  let main_v4 : FVec F S768x1x3x3 .f32 := broadcastInDim S768x1x3x3 ![] bcast_S_S768x1x3x3 main_cst_0
  let main_v5 : IVec S768x1x3x3 1 := cmpf .olt main_v3 main_v4
  let main_v6 : FVec F S9x768x1x1 .f32 := Host.absf main_arg2
  let main_cst_1 : FVec F S_ .f32 := constant S_ .f32 0x7F800000#32
  let main_v7 : FVec F S9x768x1x1 .f32 := broadcastInDim S9x768x1x1 ![] bcast_S_S9x768x1x1 main_cst_1
  let main_v8 : IVec S9x768x1x1 1 := cmpf .olt main_v6 main_v7
  (main_v2, main_v5, main_v8)
-- ==== Kernel.lean ====
abbrev S64x24x24x768 : Shape := ⟨4, ![64, 24, 24, 768]⟩
abbrev S768x1x3x3 : Shape := ⟨4, ![768, 1, 3, 3]⟩
abbrev S9x768x1x1 : Shape := ⟨4, ![9, 768, 1, 1]⟩
abbrev S9 : Shape := ⟨1, ![9]⟩
abbrev S768x9 : Shape := ⟨2, ![768, 9]⟩
abbrev S9x768 : Shape := ⟨2, ![9, 768]⟩
abbrev S1x9 : Shape := ⟨2, ![1, 9]⟩
abbrev S64x24x24x9 : Shape := ⟨4, ![64, 24, 24, 9]⟩
abbrev S8x24x24x768 : Shape := ⟨4, ![8, 24, 24, 768]⟩
abbrev S8x24x24x9 : Shape := ⟨4, ![8, 24, 24, 9]⟩
abbrev S768x128 : Shape := ⟨2, ![768, 128]⟩
abbrev S9x128 : Shape := ⟨2, ![9, 128]⟩
abbrev S4608x768 : Shape := ⟨2, ![4608, 768]⟩
abbrev S4608x128 : Shape := ⟨2, ![4608, 128]⟩
abbrev S8x24x24x128 : Shape := ⟨4, ![8, 24, 24, 128]⟩
abbrev S8x1x24x128 : Shape := ⟨4, ![8, 1, 24, 128]⟩
abbrev S8x26x24x128 : Shape := ⟨4, ![8, 26, 24, 128]⟩
abbrev S128x128 : Shape := ⟨2, ![128, 128]⟩
abbrev S4608x9 : Shape := ⟨2, ![4608, 9]⟩
abbrev S4608 : Shape := ⟨1, ![4608]⟩
abbrev S4608x1 : Shape := ⟨2, ![4608, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x24x24x768, .f32⟩
  | .hbm, ⟨1, _⟩ => ⟨S768x1x3x3, .f32⟩
  | .hbm, ⟨2, _⟩ => ⟨S9x768x1x1, .f32⟩
  | .hbm, ⟨3, _⟩ => ⟨S9, .f32⟩
  | .hbm, ⟨4, _⟩ => ⟨S768x9, .f32⟩
  | .hbm, ⟨5, _⟩ => ⟨S9x768, .f32⟩
  | .hbm, ⟨6, _⟩ => ⟨S1x9, .f32⟩
  | .hbm, ⟨7, _⟩ => ⟨S64x24x24x9, .f32⟩
  | .local _ .vmem, ⟨0, _⟩ => ⟨S8x24x24x768, .f32⟩
  | .local _ .vmem, ⟨1, _⟩ => ⟨S8x24x24x768, .f32⟩
  | .local _ .vmem, ⟨2, _⟩ => ⟨S768x9, .f32⟩
  | .local _ .vmem, ⟨3, _⟩ => ⟨S9x768, .f32⟩
  | .local _ .vmem, ⟨4, _⟩ => ⟨S1x9, .f32⟩
  | .local _ .vmem, ⟨5, _⟩ => ⟨S8x24x24x9, .f32⟩
  | .local _ .vmem, ⟨6, _⟩ => ⟨S8x24x24x9, .f32⟩
  | .local _ .vmem, ⟨7, _⟩ => ⟨S768x128, .f32⟩
  | _, _ => ⟨S64x24x24x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x24x24x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x24x24x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x24x24x768 : Shape := ⟨4, ![64, 24, 24, 768]⟩
abbrev S768x1x3x3 : Shape := ⟨4, ![768, 1, 3, 3]⟩
abbrev S9x768x1x1 : Shape := ⟨4, ![9, 768, 1, 1]⟩
abbrev S9 : Shape := ⟨1, ![9]⟩
abbrev S_ : Shape := ⟨0, ![]⟩
abbrev S64x26x26x768 : Shape := ⟨4, ![64, 26, 26, 768]⟩
abbrev S768x1x1x1 : Shape := ⟨4, ![768, 1, 1, 1]⟩
abbrev S768 : Shape := ⟨1, ![768]⟩
abbrev S1x1x1x768 : Shape := ⟨4, ![1, 1, 1, 768]⟩
abbrev S9x768 : Shape := ⟨2, ![9, 768]⟩
abbrev S64x24x24x9 : Shape := ⟨4, ![64, 24, 24, 9]⟩
abbrev S1x1x1x9 : Shape := ⟨4, ![1, 1, 1, 9]⟩
abbrev S64x24x24 : Shape := ⟨3, ![64, 24, 24]⟩
abbrev S64x24x24x1 : Shape := ⟨4, ![64, 24, 24, 1]⟩

abbrev nBuf : Space → Nat
  | .hbm => 91
  | .vmem => 0
  | .smem => 0
  | _ => 0

abbrev bufTy : (tb : Table) → Fin (tcTables nBuf tb) → BufTy
  | .hbm, ⟨0, _⟩ => ⟨S64x24x24x768, .f32⟩
  | .hbm, ⟨1, _⟩ => ⟨S768x1x3x3, .f32⟩
  | .hbm, ⟨2, _⟩ => ⟨S9x768x1x1, .f32⟩
  | .hbm, ⟨3, _⟩ => ⟨S9, .f32⟩
  | .hbm, ⟨4, _⟩ => ⟨S_, .i32⟩
  | .hbm, ⟨5, _⟩ => ⟨S_, .f32⟩
  | .hbm, ⟨6, _⟩ => ⟨S64x26x26x768, .f32⟩
  | .hbm, ⟨7, _⟩ => ⟨S_, .f32⟩
  | .hbm, ⟨8, _⟩ => ⟨S64x24x24x768, .f32⟩
  | .hbm, ⟨9, _⟩ => ⟨S64x24x24x768, .f32⟩
  | .hbm, ⟨10, _⟩ => ⟨S768x1x1x1, .f32⟩
  | .hbm, ⟨11, _⟩ => ⟨S768, .f32⟩
  | .hbm, ⟨12, _⟩ => ⟨S1x1x1x768, .f32⟩
  | .hbm, ⟨13, _⟩ => ⟨S64x24x24x768, .f32⟩
  | .hbm, ⟨14, _⟩ => ⟨S64x24x24x768, .f32⟩
  | .hbm, ⟨15, _⟩ => ⟨S64x24x24x768, .f32⟩
  | .hbm, ⟨16, _⟩ => ⟨S64x24x24x768, .f32⟩
  | .hbm, ⟨17, _⟩ => ⟨S768x1x1x1, .f32⟩
  | .hbm, ⟨18, _⟩ => ⟨S768, .f32⟩
  | .hbm, ⟨19, _⟩ => ⟨S1x1x1x768, .f32⟩
  | .hbm, ⟨20, _⟩ => ⟨S64x24x24x768, .f32⟩
  | .hbm, ⟨21, _⟩ => ⟨S64x24x24x768, .f32⟩
  | .hbm, ⟨22, _⟩ => ⟨S64x24x24x768, .f32⟩
  | .hbm, ⟨23, _⟩ => ⟨S64x24x24x768, .f32⟩
  | .hbm, ⟨24, _⟩ => ⟨S768x1x1x1, .f32⟩
  | .hbm, ⟨25, _⟩ => ⟨S768, .f32⟩
  | .hbm, ⟨26, _⟩ => ⟨S1x1x1x768, .f32⟩
  | .hbm, ⟨27, _⟩ => ⟨S64x24x24x768, .f32⟩
  | .hbm, ⟨28, _⟩ => ⟨S64x24x24x768, .f32⟩
  | .hbm, ⟨29, _⟩ => ⟨S64x24x24x768, .f32⟩
  | .hbm, ⟨30, _⟩ => ⟨S64x24x24x768, .f32⟩
  | .hbm, ⟨31, _⟩ => ⟨S768x1x1x1, .f32⟩
  | .hbm, ⟨32, _⟩ => ⟨S768, .f32⟩
  | .hbm, ⟨33, _⟩ => ⟨S1x1x1x768, .f32⟩
  | .hbm, ⟨34, _⟩ => ⟨S64x24x24x768, .f32⟩
  | .hbm, ⟨35, _⟩ => ⟨S64x24x24x768, .f32⟩
  | .hbm, ⟨36, _⟩ => ⟨S64x24x24x768, .f32⟩
  | .hbm, ⟨37, _⟩ => ⟨S64x24x24x768, .f32⟩
  | .hbm, ⟨38, _⟩ => ⟨S768x1x1x1, .f32⟩
  | .hbm, ⟨39, _⟩ => ⟨S768, .f32⟩
  | .hbm, ⟨40, _⟩ => ⟨S1x1x1x768, .f32⟩
  | .hbm, ⟨41, _⟩ => ⟨S64x24x24x768, .f32⟩
  | .hbm, ⟨42, _⟩ => ⟨S64x24x24x768, .f32⟩
  | .hbm, ⟨43, _⟩ => ⟨S64x24x24x768, .f32⟩
  | .hbm, ⟨44, _⟩ => ⟨S64x24x24x768, .f32⟩
  | .hbm, ⟨45, _⟩ => ⟨S768x1x1x1, .f32⟩
  | .hbm, ⟨46, _⟩ => ⟨S768, .f32⟩
  | .hbm, ⟨47, _⟩ => ⟨S1x1x1x768, .f32⟩
  | .hbm, ⟨48, _⟩ => ⟨S64x24x24x768, .f32⟩
  | .hbm, ⟨49, _⟩ => ⟨S64x24x24x768, .f32⟩
  | .hbm, ⟨50, _⟩ => ⟨S64x24x24x768, .f32⟩
  | .hbm, ⟨51, _⟩ => ⟨S64x24x24x768, .f32⟩
  | .hbm, ⟨52, _⟩ => ⟨S768x1x1x1, .f32⟩
  | .hbm, ⟨53, _⟩ => ⟨S768, .f32⟩
  | .hbm, ⟨54, _⟩ => ⟨S1x1x1x768, .f32⟩
  | .hbm, ⟨55, _⟩ => ⟨S64x24x24x768, .f32⟩
  | .hbm, ⟨56, _⟩ => ⟨S64x24x24x768, .f32⟩
  | .hbm, ⟨57, _⟩ => ⟨S64x24x24x768, .f32⟩
  | .hbm, ⟨58, _⟩ => ⟨S64x24x24x768, .f32⟩
  | .hbm, ⟨59, _⟩ => ⟨S768x1x1x1, .f32⟩
  | .hbm, ⟨60, _⟩ => ⟨S768, .f32⟩
  | .hbm, ⟨61, _⟩ => ⟨S1x1x1x768, .f32⟩
  | .hbm, ⟨62, _⟩ => ⟨S64x24x24x768, .f32⟩
  | .hbm, ⟨63, _⟩ => ⟨S64x24x24x768, .f32⟩
  | .hbm, ⟨64, _⟩ => ⟨S64x24x24x768, .f32⟩
  | .hbm, ⟨65, _⟩ => ⟨S64x24x24x768, .f32⟩
  | .hbm, ⟨66, _⟩ => ⟨S768x1x1x1, .f32⟩
  | .hbm, ⟨67, _⟩ => ⟨S768, .f32⟩
  | .hbm, ⟨68, _⟩ => ⟨S1x1x1x768, .f32⟩
  | .hbm, ⟨69, _⟩ => ⟨S64x24x24x768, .f32⟩
  | .hbm, ⟨70, _⟩ => ⟨S64x24x24x768, .f32⟩
  | .hbm, ⟨71, _⟩ => ⟨S64x24x24x768, .f32⟩
  | .hbm, ⟨72, _⟩ => ⟨S9x768, .f32⟩
  | .hbm, ⟨73, _⟩ => ⟨S64x24x24x9, .f32⟩
  | .hbm, ⟨74, _⟩ => ⟨S1x1x1x9, .f32⟩
  | .hbm, ⟨75, _⟩ => ⟨S64x24x24x9, .f32⟩
  | .hbm, ⟨76, _⟩ => ⟨S64x24x24x9, .f32⟩
  | .hbm, ⟨77, _⟩ => ⟨S_, .f32⟩
  | .hbm, ⟨78, _⟩ => ⟨S64x24x24, .f32⟩
  | .hbm, ⟨79, _⟩ => ⟨S_, .f32⟩
  | .hbm, ⟨80, _⟩ => ⟨S64x24x24, .f32⟩
  | .hbm, ⟨81, _⟩ => ⟨S64x24x24, .f32⟩
  | .hbm, ⟨82, _⟩ => ⟨S64x24x24x1, .f32⟩
  | .hbm, ⟨83, _⟩ => ⟨S64x24x24x9, .f32⟩
  | .hbm, ⟨84, _⟩ => ⟨S64x24x24x9, .f32⟩
  | .hbm, ⟨85, _⟩ => ⟨S64x24x24x9, .f32⟩
  | .hbm, ⟨86, _⟩ => ⟨S_, .f32⟩
  | .hbm, ⟨87, _⟩ => ⟨S64x24x24, .f32⟩
  | .hbm, ⟨88, _⟩ => ⟨S64x24x24x1, .f32⟩
  | .hbm, ⟨89, _⟩ => ⟨S64x24x24x9, .f32⟩
  | .hbm, ⟨90, _⟩ => ⟨S64x24x24x9, .f32⟩
  | _, _ => ⟨S64x24x24x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_0 : Ref sig .tc := ⟨.hbm, 77, rfl⟩
abbrev main_v70 : Ref sig .tc := ⟨.hbm, 78, rfl⟩
abbrev main_cst_1 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_2 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩

abbrev nD : Nat := 1
abbrev τ : Topo := Topo.v7x

variable {F : FTy → Type} [FloatOps F]
-- ==== Proof.BlockRun.lean ====
/-
  What one grid point leaves behind, as two functions of the blocks it is handed: `wallOf`, the combined weights built at
  the first point, and `headOf`, the block of class weights computed from a block of the image, the combined weights and
  the bias. The first point builds the weights and uses them; every later point uses what the scratch holds.
-/
module

public import proofs.«01_k».proof.Proof.Gen.KernelIdeal.Value
public import Idealize.ShloMosaic.Lib.Pipeline.Value

@[expose] public section

set_option maxRecDepth 16384

noncomputable section

namespace Cert.KernelIdeal.Head

open Idealize.ShloMosaic Idealize.ShloMosaic.TcCoe Idealize.ShloMosaic.Tactic Idealize.SL.Sem
open Cert.KernelIdeal Cert.KernelIdeal.Gen Cert.KernelIdeal.Facts

variable {F : FTy → Type} [FloatOps F]

/-- The combined weights [768, 128] from the depthwise weights [768, 9] and the pointwise weights [9, 768]. -/
def wallOf (dw : Vec F S768x9 .f32) (pw : Vec F S9x768 .f32) : Vec F S768x128 .f32 :=
  k0_pay7 (iota .tc S9x128 32 [0] iota_S9x128_d0_w32) k0_pay2 (k0_pay3 (F := F)) k0_pay4 k0_pay5 k0_pay6 dw pw

/-- The padded, shifted-along-the-width products [8, 26, 24, 128] of a block of the image with the combined weights. -/
def paddedOf (x : Vec F S8x24x24x768 .f32) (wall : Vec F S768x128 .f32) : FVec F S8x26x24x128 .f32 :=
  k0_pay10 (k0_pay8 x wall) (iota .tc S8x24x24x128 32 [2] iota_S8x24x24x128_d2_w32)
    (Scalar.select (Scalar.cmpi .eq 3#32 0#32) 1#32 3#32) k0_pay9 0#32

/-- … and shifted along the height, as the rows [4608, 128] of a matrix. -/
def rowsOf (x : Vec F S8x24x24x768 .f32) (wall : Vec F S768x128 .f32) : FVec F S4608x128 .f32 :=
  k0_pay13 (iota .tc S8x24x24x128 32 [3] iota_S8x24x24x128_d3_w32) (paddedOf x wall) 9#32
    (k0_pay11 (iota .tc S8x24x24x128 32 [3] iota_S8x24x24x128_d3_w32))
    (k0_pay12 (iota .tc S8x24x24x128 32 [3] iota_S8x24x24x128_d3_w32))
    (Scalar.extui (Scalar.cmpi .sgt 9#32 0#32)) (Scalar.cmpi .slt 9#32 0#32)

/-- The block of class weights: the rows folded to 9 columns, the bias added, the softmax of each row. -/
def headOf (x : Vec F S8x24x24x768 .f32) (wall : Vec F S768x128 .f32) (b : Vec F S1x9 .f32) : Vec F S8x24x24x9 .f32 :=
  k0_pay1 (rowsOf x wall) (iota .tc S128x128 32 [0] iota_S128x128_d0_w32) 9#32 0#32 b

/-- The zero offset of two axes. -/
theorem hz2 : (![0, 0] : Fin 2 → Nat) = fun _ => 0 := funext fun a => by fin_cases a <;> rfl
/-- The zero offset of four axes. -/
theorem hz4 : (![0, 0, 0, 0] : Fin 4 → Nat) = fun _ => 0 := funext fun a => by fin_cases a <;> rfl

section Cases
variable (c : Dev nD) (i : grid0.Coords)
  (a1 : Memref sig .tc .vmem S8x24x24x768 .f32) (h1 : a1.IsWhole) (a2 : Memref sig .tc .vmem S768x9 .f32) (h2 : a2.IsWhole)
  (a3 : Memref sig .tc .vmem S9x768 .f32) (h3 : a3.IsWhole) (a4 : Memref sig .tc .vmem S1x9 .f32) (h4 : a4.IsWhole)
  (a5 : Memref sig .tc .vmem S8x24x24x9 .f32) (h5 : a5.IsWhole) (a6 : Memref sig .tc .vmem S768x128 .f32) (h6 : a6.IsWhole)
  (x0 : Vec F S8x24x24x768 .f32) (x1 : Vec F S768x9 .f32) (x2 : Vec F S9x768 .f32) (x3 : Vec F S1x9 .f32)

/-- A later point leaves `headOf` of its image block, the scratch it found and the bias. -/
theorem out_B (hc : ¬cond0_0 i) (xs : Vec F S768x128 .f32) :
    out0_B_4 c i a1 h1 a2 h2 a3 h3 a4 h4 a5 h5 a6 h6 hc x0 x1 x2 x3 xs = headOf x0 xs x3 := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero hz4]
  simp only [View.readAt_eq_ld, h1.read_unread, h4.read_unread, h6.read_unread, View.ld_unit_zero (S := S8x24x24x768) hz4,
    View.ld_unit_zero (S := S768x128) hz2, View.ld_unit_zero (S := S1x9) hz2]
  rfl

/-- The first point leaves `wallOf` of the weight blocks in the scratch. -/
theorem sout_A (hc : cond0_0 i) :
    sout0_A_0 c i a1 h1 a2 h2 a3 h3 a4 h4 a5 h5 a6 h6 hc x0 x1 x2 x3 = wallOf x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz2]
  simp only [View.readAt_eq_ld, h2.read_unread, h3.read_unread, View.ld_unit_zero (S := S768x9) hz2,
    View.ld_unit_zero (S := S9x768) hz2]
  rfl

/-- … and `headOf` of its image block, those weights and the bias in the result block. -/
theorem out_A (hc : cond0_0 i) :
    out0_A_4 c i a1 h1 a2 h2 a3 h3 a4 h4 a5 h5 a6 h6 hc x0 x1 x2 x3 = headOf x0 (wallOf x1 x2) x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz4]
  simp only [View.readAt_eq_ld, h1.read_unread, h2.read_unread, h3.read_unread, h4.read_unread,
    View.readCov_unit_zero (S := S768x128) _ hz2, View.ld_unit_zero (S := S8x24x24x768) hz4,
    View.ld_unit_zero (S := S768x9) hz2, View.ld_unit_zero (S := S9x768) hz2, View.ld_unit_zero (S := S1x9) hz2]
  rfl

end Cases

variable (m : (ℓ : Loc nD τ sig) → Buf (Elt F) ℓ)

/-- The combined weights of the whole run: built from the weight blocks of the first point. -/
def wall (c : Dev nD) : Vec F S768x128 .f32 :=
  wallOf (iblk m c 1 ⟨0, by rw [show cfg0.N = 8 from N_0]; decide⟩) (iblk m c 2 ⟨0, by rw [show cfg0.N = 8 from N_0]; decide⟩)

/-- After every grid point the scratch holds the combined weights: by induction on the point. -/
theorem scratch_eq (c : Dev nD) : ∀ (n : ℕ) (h : n < cfg0.N), (outsAt0 m c n h).2 = wall m c
  | 0, h => by
    rw [outsAt0_A m c ⟨0, h⟩ rfl]
    dsimp only
    rw [sout_A]
    rfl
  | n + 1, h => by
    have hN : cfg0.N = 8 := N_0
    have hB : ¬(⟨n + 1, h⟩ : Fin cfg0.N).val % 8 = 0 := by dsimp only; omega
    rw [outsAt0_B m c ⟨n + 1, h⟩ hB]
    exact scratch_eq c n _

/-- After point `t` the result's staging buffer holds `headOf` of the point's image block. -/
theorem block_eq (c : Dev nD) (n : ℕ) (h : n < cfg0.N) :
    (outsAt0 m c n h).1 = headOf (iblk m c 0 ⟨n, h⟩) (wall m c) (iblk m c 3 ⟨n, h⟩) := by
  have hN : cfg0.N = 8 := N_0
  cases n with
  | zero =>
    rw [outsAt0_A m c ⟨0, h⟩ rfl]
    dsimp only
    rw [out_A]
    rfl
  | succ n =>
    have hB : ¬(⟨n + 1, h⟩ : Fin cfg0.N).val % 8 = 0 := by dsimp only; omega
    rw [outsAt0_B m c ⟨n + 1, h⟩ hB]
    dsimp only
    rw [out_B, scratch_eq]

end Cert.KernelIdeal.Head

end
-- ==== Proof.Shared.lean ====
/-
  The mathematics both programs are read into, with no array of either program in it: an image with a border of zeros, the
  softmax of nine logits, a sum over 128 lanes of which 81 carry taps, and the equation between the two orders of summation.
-/
module

public import Idealize.ShloMosaic.Lib.Pointwise

@[expose] public section

noncomputable section

namespace ConvHead

open Idealize.ShloMosaic

/-- A 24 by 24 image with a border of zeros one pixel wide, at row `y` and column `z` of the bordered image. -/
def border (img : Fin 24 → Fin 24 → EReal) (y z : ℕ) : EReal :=
  if h : (1 ≤ y ∧ y - 1 < 24) ∧ 1 ≤ z ∧ z - 1 < 24 then img ⟨y - 1, h.1.2⟩ ⟨z - 1, h.2.2⟩ else 0

/-- A weighted sum of images, bordered, is the weighted sum of the bordered images: the border contributes `0 * g = 0`. -/
theorem border_sum {n : ℕ} (f : Fin n → Fin 24 → Fin 24 → EReal) (g : Fin n → EReal) (y z : ℕ) :
    border (fun a b => ∑ d, f d a b * g d) y z = ∑ d, border (f d) y z * g d := by
  unfold border
  split_ifs with h
  · rfl
  · simp

/-- The bordered image holds what the image holds, or zero. -/
theorem border_finite (img : Fin 24 → Fin 24 → EReal) (him : ∀ a b, ∃ r : ℝ, img a b = r) (y z : ℕ) :
    ∃ r : ℝ, border img y z = r := by
  unfold border
  split_ifs with h
  · exact him _ _
  · exact ⟨0, by simp⟩

/-- The greatest of nine logits, from minus infinity. -/
def top (L : Fin 9 → EReal) : EReal := Finset.fold max (Ideal.ofBits .f32 0xFF800000#32) L Finset.univ

/-- Class `k`'s share: the exponential of its logit less the greatest, over the sum of the nine exponentials. -/
def soft (L : Fin 9 → EReal) (k : Fin 9) : EReal :=
  Ideal.div (Ideal.exp (L k - top L)) (∑ j, Ideal.exp (L j - top L))

/-- Taking the maximum with the starting value once more changes nothing. -/
theorem max_top (L : Fin 9 → EReal) : max (Ideal.ofBits .f32 0xFF800000#32) (top L) = top L :=
  max_eq_right ((Finset.le_fold_max _).2 (.inl le_rfl))

/-- A sum over 9 lanes against the indicator of one lane is that lane's value, or zero where the indicator is off. -/
theorem sum_pick (f : Fin 9 → EReal) (n : ℕ) (hn : n < 9) (p : Prop) [Decidable p] :
    ∑ r : Fin 9, f r * (if n = r.val ∧ p then 1 else 0) = if p then f ⟨n, hn⟩ else 0 := by
  rw [Finset.sum_eq_single (⟨n, hn⟩ : Fin 9)]
  · by_cases hp : p <;> simp [hp]
  · intro b _ hb
    rw [if_neg (fun h => hb (Fin.ext h.1.symm)), mul_zero]
  · intro h; exact absurd (Finset.mem_univ _) h

/-- Folding 128 lanes to class `k`: only the lanes `9 r + k`, `r < 9`, count. -/
theorem sum_lanes (f : Fin 128 → EReal) (k : Fin 9) :
    ∑ c : Fin 128, f c * (if c.val % 9 = k.val ∧ c.val < 81 then 1 else 0)
      = ∑ r : Fin 9, f ⟨9 * r.val + k.val, by omega⟩ := by
  simp only [mul_ite, mul_one, mul_zero]
  rw [← Finset.sum_filter]
  symm
  refine Finset.sum_bij (fun r _ => (⟨9 * r.val + k.val, by omega⟩ : Fin 128)) ?_ ?_ ?_ ?_
  · intro r _
    simp only [Finset.mem_filter, Finset.mem_univ, true_and]
    omega
  · intro r _ r' _ h
    have := congrArg Fin.val h
    dsimp only at this
    apply Fin.ext; omega
  · intro c hc
    simp only [Finset.mem_filter, Finset.mem_univ, true_and] at hc
    exact ⟨⟨c.val / 9, by omega⟩, Finset.mem_univ _, Fin.ext (by dsimp only; omega)⟩
  · intro r _; rfl

/-- One channel: nine products added up from zero and then weighted are the nine products of the combined weights. Over
    finite numbers only: it distributes a factor over a sum. -/
theorem channel (p a : Fin 9 → EReal) (q : EReal) (hp : ∀ r, ∃ x : ℝ, p r = x) (ha : ∀ r, ∃ x : ℝ, a r = x)
    (hq : ∃ x : ℝ, q = x) :
    ∑ r, p r * (a r * q)
      = (p 0 * a 0 + p 1 * a 1 + p 2 * a 2 + p 3 * a 3 + p 4 * a 4 + p 5 * a 5 + p 6 * a 6 + p 7 * a 7 + p 8 * a 8) * q := by
  choose p' hp' using hp
  choose a' ha' using ha
  obtain ⟨q', rfl⟩ := hq
  simp only [Fin.sum_univ_succ, Fin.sum_univ_zero, hp', ha', Fin.succ_zero_eq_one, Fin.isValue]
  norm_cast
  simp only [Fin.isValue, Fin.reduceSucc]
  ring

/-- The two orders of summation: taps outside and channels inside, or channels outside and taps inside. -/
theorem logit_eq (p a : Fin 9 → Fin 768 → EReal) (q : Fin 768 → EReal) (hp : ∀ r d, ∃ x : ℝ, p r d = x)
    (ha : ∀ r d, ∃ x : ℝ, a r d = x) (hq : ∀ d, ∃ x : ℝ, q d = x) :
    ∑ r, ∑ d, p r d * (a r d * q d)
      = ∑ d, (p 0 d * a 0 d + p 1 d * a 1 d + p 2 d * a 2 d + p 3 d * a 3 d + p 4 d * a 4 d + p 5 d * a 5 d + p 6 d * a 6 d
          + p 7 d * a 7 d + p 8 d * a 8 d) * q d := by
  rw [Finset.sum_comm]
  exact Finset.sum_congr rfl fun d _ => channel (p · d) (a · d) (q d) (hp · d) (ha · d) (hq d)

/-- A number that with its negative is below infinity is a real number. -/
theorem real_of_max_lt (x : EReal) (h : max x (-x) < ⊤) : ∃ r : ℝ, x = r := by
  induction x using EReal.rec with
  | bot => simp at h
  | coe r => exact ⟨r, rfl⟩
  | top => simp at h

end ConvHead

end
-- ==== Proof.Lanes.lean ====
/-
  The lane arithmetic of the kernel, word by word: lane `c` of the 128 carries tap `c / 9` of class `c % 9` while `c < 81`,
  and its tap's column offset and row offset are read off `c`.
-/
module

public import proofs.«01_k».proof.Proof.BlockRun
public import proofs.«01_k».proof.Proof.Shared

@[expose] public section

set_option maxRecDepth 16384

noncomputable section

namespace Cert.KernelIdeal.Head

open Idealize.ShloMosaic Idealize.ShloMosaic.TcCoe Idealize.ShloMosaic.Tactic Idealize.SL.Sem
open Cert.KernelIdeal Cert.KernelIdeal.Gen Cert.KernelIdeal.Facts ConvHead

/-- The indicator of two lane conditions, widened and converted: one or zero. -/
theorem sitofp_word (w : BitVec 32) (p : Prop) [Decidable p] (h : w = if p then 1#32 else 0#32) :
    (FloatOps.sitofp (F := Ideal) .f32 w : EReal) = if p then 1 else 0 := by
  subst h
  split_ifs <;> simp [FloatOps.sitofp]

/-- The row-group selector: one at lane `c` of row `r` exactly when lane `c` carries a value and its tap is `r`. -/
theorem pay3_apply (r : Fin 9) (c : Fin 128) :
    k0_pay3 (F := Ideal) (ix2 r c) = if c.val / 9 = r.val ∧ c.val < 81 then (1 : EReal) else 0 := by
  pointwise [k0_pay3, k0_pay2]
  refine sitofp_word _ _ ?_
  revert r c
  decide +kernel

/-- The column offset of lane `c`'s tap, as a word. -/
theorem pay9_apply (b : Fin 8) (h w : Fin 24) (c : Fin 128) :
    k0_pay9 (ix4 b h w c) = BitVec.ofNat 32 (c.val / 9 % 3) := by
  pointwise [k0_pay9]
  revert c
  decide +kernel

/-- The class selector's word, which the weights and the last product's fold both take: lane `c` carries class `x`. -/
theorem class_word : ∀ x : Fin 9, ∀ c : Fin 128, BitVec.setWidth 32
      (IntOp.andi (IntOp.cmpi .eq (Scalar.select
        (IntOp.andi (IntOp.xori (IntOp.cmpi .slt (IntOp.remsi ArithUnit.vector (BitVec.ofNat 32 c.val) (Scalar.select (Scalar.cmpi .eq 9#32 0#32) 1#32 9#32)) 0#32) (Scalar.cmpi .slt (Scalar.select (Scalar.cmpi .eq 9#32 0#32) 1#32 9#32) 0#32))
          (IntOp.cmpi .ne (IntOp.remsi ArithUnit.vector (BitVec.ofNat 32 c.val) (Scalar.select (Scalar.cmpi .eq 9#32 0#32) 1#32 9#32)) 0#32))
        (IntOp.addi (IntOp.remsi ArithUnit.vector (BitVec.ofNat 32 c.val) (Scalar.select (Scalar.cmpi .eq 9#32 0#32) 1#32 9#32)) (Scalar.select (Scalar.cmpi .eq 9#32 0#32) 1#32 9#32))
        (IntOp.remsi ArithUnit.vector (BitVec.ofNat 32 c.val) (Scalar.select (Scalar.cmpi .eq 9#32 0#32) 1#32 9#32))) (BitVec.ofNat 32 x.val))
        (IntOp.cmpi .slt (BitVec.ofNat 32 c.val) 81#32)) = if c.val % 9 = x.val ∧ c.val < 81 then 1#32 else 0#32 := by
  decide +kernel

/-- A lane below 81 of the combined weights: its tap's depthwise weight times its class's pointwise weight. -/
theorem wall_apply (dw : FVec Ideal S768x9 .f32) (pw : FVec Ideal S9x768 .f32) (d : Fin 768) (c : Fin 128) (hc : c.val < 81) :
    wallOf (F := Ideal) dw pw (ix2 d c) = (dw (ix2 d ⟨c.val / 9, by omega⟩) * pw (ix2 ⟨c.val % 9, by omega⟩ d) : EReal) := by
  pointwise [wallOf, k0_pay7, k0_pay4, k0_pay5, k0_pay6, k0_pay2, pay3_apply]
  rw [sum_pick _ _ (by omega), if_pos hc]
  simp only [sitofp_word _ _ (class_word _ c)]
  rw [sum_pick _ _ (by omega), if_pos hc]

/-- Two nested selects over condition words. -/
theorem select_two {α : Type} (w1 w2 : BitVec 1) (p q : Prop) [Decidable p] [Decidable q] (a b c : α)
    (h1 : w1 = if p then 1#1 else 0#1) (h2 : w2 = if q then 1#1 else 0#1) :
    Scalar.select w1 a (Scalar.select w2 b c) = if p then a else if q then b else c := by
  rw [h1, h2]
  by_cases hp : p <;> by_cases hq : q <;> simp only [hp, hq, if_true, if_false] <;> rfl

/-- Three nested selects over condition words. -/
theorem select_three {α : Type} (w1 w2 w3 : BitVec 1) (p q r : Prop) [Decidable p] [Decidable q] [Decidable r] (a b c d : α)
    (h1 : w1 = if p then 1#1 else 0#1) (h2 : w2 = if q then 1#1 else 0#1) (h3 : w3 = if r then 1#1 else 0#1) :
    Scalar.select w1 a (Scalar.select w2 b (Scalar.select w3 c d)) = if p then a else if q then b else if r then c else d := by
  rw [select_two w1 w2 p q a b _ h1 h2]
  rw [h3]
  by_cases hr : r <;> simp only [hr, if_true, if_false] <;> rfl

/-- A row of 24 read one column to the left, in place, or one to the right, zero past either end: the row with a zero at each
    end, read at its column offset. -/
theorem pick_col (g : Fin 24 → EReal) (w : Fin 24) (j : ℕ) (hj : j < 3) :
    (if j = 1 then g w else if j = 0 ∧ w.val ≠ 0 then g ⟨(w.val + 24 - 1) % 24, by omega⟩
      else if j = 2 ∧ w.val ≠ 23 then g ⟨(w.val + 24 - 23) % 24, by omega⟩ else 0)
      = if h : 1 ≤ j + w.val ∧ j + w.val - 1 < 24 then g ⟨j + w.val - 1, h.2⟩ else 0 := by
  have hw := w.isLt
  split_ifs with h1 h2 h3 h4 h5 h6 h7
  all_goals first
    | rfl
    | (exfalso; omega)
    | (congr 1; apply Fin.ext; dsimp only; omega)

/-- The block's product with the combined weights, at an index. -/
theorem pay8_apply (x : FVec Ideal S8x24x24x768 .f32) (wl : FVec Ideal S768x128 .f32) (b : Fin 8) (h w : Fin 24)
    (c : Fin 128) :
    k0_pay8 (F := Ideal) x wl (ix4 b h w c) = ∑ d, x (ix4 b h w d) * wl (ix2 d c) := by
  pointwise [k0_pay8]

/-- The product shifted along the width by its lane's column offset and padded along the height: the product's image with its
    border of zeros, at row `h` and at the lane's column. -/
theorem padded_apply (x : FVec Ideal S8x24x24x768 .f32) (wl : FVec Ideal S768x128 .f32) (b : Fin 8) (h : Fin 26) (w : Fin 24)
    (c : Fin 128) :
    paddedOf (F := Ideal) x wl (ix4 b h w c)
      = border (fun y z => ∑ d, x (ix4 b y z d) * wl (ix2 d c)) h.val (c.val / 9 % 3 + w.val) := by
  have hb : border (fun y z => ∑ d, x (ix4 b y z d) * wl (ix2 d c)) h.val (c.val / 9 % 3 + w.val)
      = if hy : 1 ≤ h.val ∧ h.val - 1 < 24 then
          (if hz : 1 ≤ c.val / 9 % 3 + w.val ∧ c.val / 9 % 3 + w.val - 1 < 24 then
            k0_pay8 (F := Ideal) x wl (ix4 b ⟨h.val - 1, hy.2⟩ ⟨c.val / 9 % 3 + w.val - 1, hz.2⟩ c) else 0) else 0 := by
    unfold border
    split_ifs with h1 h2 h3 h4 <;> first
      | rfl
      | (exfalso; omega)
      | (rw [pay8_apply])
      | simp_all
  rw [hb]
  pointwise [paddedOf, k0_pay10, pay9_apply]
  by_cases h0 : h.val < 1
  · rw [dif_pos h0, dif_neg (by omega)]
  rw [dif_neg h0]
  by_cases h1 : h.val - 1 < 24
  · rw [dif_pos h1, dif_pos ⟨by omega, h1⟩,
      ← pick_col (fun z => k0_pay8 (F := Ideal) x wl (ix4 b ⟨h.val - 1, h1⟩ z c)) w (c.val / 9 % 3) (by omega)]
    refine select_three _ _ _ _ _ _ _ _ _ _ ?_ ?_ ?_
    all_goals
      clear hb
      revert c w
      decide +kernel
  · rw [dif_neg h1, dif_neg (by omega)]

/-- The rows the last product takes: row `b`, `h`, `w` at a lane below 81 is the bordered image at the lane's tap. -/
theorem rows_apply (x : FVec Ideal S8x24x24x768 .f32) (wl : FVec Ideal S768x128 .f32) (b : Fin 8) (h w : Fin 24)
    (c : Fin 128) (hc : c.val < 81) (i : Fin 4608) (hi : i = ⟨b.val * 576 + h.val * 24 + w.val, by omega⟩) :
    rowsOf (F := Ideal) x wl (ix2 i c)
      = border (fun y z => ∑ d, x (ix4 b y z d) * wl (ix2 d c)) (c.val / 27 + h.val) (c.val / 9 % 3 + w.val) := by
  subst hi
  have e : rowsOf (F := Ideal) x wl (ix2 ⟨b.val * 576 + h.val * 24 + w.val, by omega⟩ c)
      = if c.val / 27 = 0 then paddedOf (F := Ideal) x wl (ix4 b ⟨h.val, by omega⟩ w c)
        else if c.val / 27 = 1 then paddedOf (F := Ideal) x wl (ix4 b ⟨1 + h.val, by omega⟩ w c)
        else paddedOf (F := Ideal) x wl (ix4 b ⟨2 + h.val, by omega⟩ w c) := by
    pointwise [rowsOf, k0_pay13, k0_pay12, k0_pay11]
    refine select_two _ _ _ _ _ _ _ ?_ ?_
    all_goals
      revert c
      decide +kernel
  rw [e]
  simp only [padded_apply]
  split_ifs with h0 h1
  · rw [h0, Nat.zero_add]
  · rw [h1]
  · rw [show c.val / 27 = 2 by omega]

/-- The block's result at an index: the softmax of its nine logits, each the lanes of its class and the bias. -/
theorem head_apply (x : FVec Ideal S8x24x24x768 .f32) (wl : FVec Ideal S768x128 .f32) (bias : FVec Ideal S1x9 .f32) (b : Fin 8)
    (h w : Fin 24) (k : Fin 9) :
    headOf (F := Ideal) x wl bias (ix4 b h w k)
      = soft (fun k => (∑ r : Fin 9, border (fun y z => ∑ d, x (ix4 b y z d) * wl (ix2 d ⟨9 * r.val + k.val, by omega⟩))
          (r.val / 3 + h.val) (r.val % 3 + w.val)) + bias (ix2 0 k)) k := by
  pointwise [headOf, k0_pay1]
  simp only [sitofp_word _ _ (class_word _ _)]
  have hl : ∀ j : Fin 9, ∑ c : Fin 128, (rowsOf (F := Ideal) x wl (ix2 ⟨b.val * 576 + h.val * 24 + w.val, by omega⟩ c) : EReal)
      * (if c.val % 9 = j.val ∧ c.val < 81 then 1 else 0)
      = ∑ r : Fin 9, border (fun y z => ∑ d, x (ix4 b y z d) * wl (ix2 d ⟨9 * r.val + j.val, by omega⟩))
          (r.val / 3 + h.val) (r.val % 3 + w.val) := by
    intro j
    rw [sum_lanes]
    refine Finset.sum_congr rfl fun r _ => ?_
    rw [rows_apply x wl b h w _ (by dsimp only; omega) _ rfl]
    rw [show (9 * r.val + j.val) / 27 = r.val / 3 by omega, show (9 * r.val + j.val) / 9 % 3 = r.val % 3 by omega]
  simp only [hl]
  rfl

end Cert.KernelIdeal.Head

end
-- ==== Proof.Whole.lean ====
/-
  What the kernel's result array holds, index by index, over the arguments: the block a grid point reads of each argument,
  and the result at an index as the block function at the point that holds the index.
-/
module

public import proofs.«01_k».proof.Proof.BlockRun
public import proofs.«01_k».proof.Proof.Gen.KernelIdeal.Value
public import proofs.«01_k».proof.Proof.Lanes
public import Idealize.ShloMosaic.Lib.Pointwise
public import Idealize.ShloMosaic.Lib.StableHlo.ReadAt

@[expose] public section

set_option maxRecDepth 16384

noncomputable section

namespace Cert.KernelIdeal.Head

open Idealize.ShloMosaic Idealize.ShloMosaic.TcCoe Idealize.ShloMosaic.Tactic Idealize.SL.Sem
open Cert.KernelIdeal Cert.KernelIdeal.Gen Cert.KernelIdeal.Facts ConvHead

variable {F : FTy → Type} [FloatOps F]
variable (m : (ℓ : Loc nD τ sig) → Buf (Elt F) ℓ)

/-- The first window moves one block of eight images along per point. -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The depthwise weights' window stays at its one block. -/
theorem idx1 : ∀ t : Fin cfg0.N, win0_1.index t (0 : Fin 2) = 0 ∧ win0_1.index t (1 : Fin 2) = 0 :=
  (by decide +kernel : ∀ t : Fin grid0.N, _)
/-- The pointwise weights' window stays at its one block. -/
theorem idx2 : ∀ t : Fin cfg0.N, win0_2.index t (0 : Fin 2) = 0 ∧ win0_2.index t (1 : Fin 2) = 0 :=
  (by decide +kernel : ∀ t : Fin grid0.N, _)
/-- The bias's window stays at its one block. -/
theorem idx3 : ∀ t : Fin cfg0.N, win0_3.index t (0 : Fin 2) = 0 ∧ win0_3.index t (1 : Fin 2) = 0 :=
  (by decide +kernel : ∀ t : Fin grid0.N, _)

/-- Point `t`'s block of the images: image `8t + b` of the argument. -/
theorem iblk0_apply (c : Dev nD) (t : Fin cfg0.N) (b : Fin 8) (h w : Fin 24) (d : Fin 768) (n : Fin 64)
    (hn : n.val = 8 * t.val + b.val) :
    (iblk m c 0 t : Vec F S8x24x24x768 .f32) (ix4 b h w d) = m ((c : Thread nD τ).loc main_arg0) (ix4 n h w d) := by
  obtain ⟨e0, e1, e2, e3⟩ := idx0 t
  unfold iblk
  rw [View.read_apply]
  show V m c main_arg0 _ = _
  rw [V_main_arg0]
  congr 1
  funext a
  apply Fin.ext
  match a with
  | ⟨0, _⟩ => show win0_0.index t 0 * 8 + 1 * b.val = n.val; rw [e0, hn]; omega
  | ⟨1, _⟩ => show win0_0.index t 1 * 24 + 1 * h.val = h.val; rw [e1]; omega
  | ⟨2, _⟩ => show win0_0.index t 2 * 24 + 1 * w.val = w.val; rw [e2]; omega
  | ⟨3, _⟩ => show win0_0.index t 3 * 768 + 1 * d.val = d.val; rw [e3]; omega

/-- The depthwise weights' block: tap `r` of channel `d` is the argument at row `r / 3`, column `r % 3`. -/
theorem iblk1_apply (c : Dev nD) (t : Fin cfg0.N) (d : Fin 768) (r : Fin 9) :
    (iblk m c 1 t : Vec F S768x9 .f32) (ix2 d r)
      = m ((c : Thread nD τ).loc main_arg1) (ix4 d 0 ⟨r.val / 3, by omega⟩ ⟨r.val % 3, by omega⟩) := by
  obtain ⟨e0, e1⟩ := idx1 t
  unfold iblk
  rw [View.read_apply]
  show V m c main_v0 _ = _
  have hi : (((cfg0.win 1).blk t).view.emb (ix2 d r) : S768x9.Idx) = ix2 d r := by
    funext a
    apply Fin.ext
    match a with
    | ⟨0, _⟩ => show win0_1.index t 0 * 768 + 1 * d.val = d.val; rw [e0]; omega
    | ⟨1, _⟩ => show win0_1.index t 1 * 9 + 1 * r.val = r.val; rw [e1]; omega
  refine (congrArg (V m c main_v0) hi).trans ?_
  unfold V
  after_reads_at

/-- The pointwise weights' block: the argument without its two unit axes. -/
theorem iblk2_apply (c : Dev nD) (t : Fin cfg0.N) (k : Fin 9) (d : Fin 768) :
    (iblk m c 2 t : Vec F S9x768 .f32) (ix2 k d) = m ((c : Thread nD τ).loc main_arg2) (ix4 k d 0 0) := by
  obtain ⟨e0, e1⟩ := idx2 t
  unfold iblk
  rw [View.read_apply]
  show V m c main_v1 _ = _
  have hi : (((cfg0.win 2).blk t).view.emb (ix2 k d) : S9x768.Idx) = ix2 k d := by
    funext a
    apply Fin.ext
    match a with
    | ⟨0, _⟩ => show win0_2.index t 0 * 9 + 1 * k.val = k.val; rw [e0]; omega
    | ⟨1, _⟩ => show win0_2.index t 1 * 768 + 1 * d.val = d.val; rw [e1]; omega
  refine (congrArg (V m c main_v1) hi).trans ?_
  unfold V
  after_reads_at

/-- The bias's block: the argument as one row. -/
theorem iblk3_apply (c : Dev nD) (t : Fin cfg0.N) (k : Fin 9) :
    (iblk m c 3 t : Vec F S1x9 .f32) (ix2 0 k) = m ((c : Thread nD τ).loc main_arg3) (ix1 k) := by
  obtain ⟨e0, e1⟩ := idx3 t
  unfold iblk
  rw [View.read_apply]
  show V m c main_v2 _ = _
  have hi : (((cfg0.win 3).blk t).view.emb (ix2 0 k) : S1x9.Idx) = ix2 0 k := by
    funext a
    apply Fin.ext
    match a with
    | ⟨0, _⟩ => show win0_3.index t 0 * 1 + 1 * 0 = 0; rw [e0]
    | ⟨1, _⟩ => show win0_3.index t 1 * 9 + 1 * k.val = k.val; rw [e1]; omega
  refine (congrArg (V m c main_v2) hi).trans ?_
  unfold V
  after_reads_at

/-- The result array at image `n`: the block function at the point that holds image `n`, at the image's place in the block. -/
theorem G4_apply (c : Dev nD) (n : Fin 64) (y w : Fin 24) (k : Fin 9) (hn : n.val / 8 < cfg0.N) :
    Value.G4 m c (ix4 n y w k)
      = headOf (iblk m c 0 ⟨n.val / 8, hn⟩) (wall m c) (iblk m c 3 ⟨n.val / 8, hn⟩) (ix4 ⟨n.val % 8, by omega⟩ y w k) := by
  have hp : Value.pt4Of (ix4 n y w k : S64x24x24x9.Idx) = n.val / 8 := by
    show 1 * (n.val / 8 - 0) + 1 * (y.val / 24 - 0) + 1 * (w.val / 24 - 0) + 1 * (k.val / 9 - 0) = n.val / 8
    omega
  have hl : Value.loc4Of (ix4 n y w k : S64x24x24x9.Idx) = ix4 ⟨n.val % 8, by omega⟩ y w k := by
    funext a
    apply Fin.ext
    match a with
    | ⟨0, _⟩ => rfl
    | ⟨1, _⟩ => show y.val % 24 = y.val; omega
    | ⟨2, _⟩ => show w.val % 24 = w.val; omega
    | ⟨3, _⟩ => show k.val % 9 = k.val; omega
  unfold Value.G4
  rw [dif_pos (hp.symm ▸ hn), ← Value.outsAt0_sweep m c _ (hp.symm ▸ hn), block_eq, hl]
  congr 1 <;> (congr 1; exact Fin.ext hp)

/-- The image on device `c`, as an array of extended reals. -/
abbrev img (m : (ℓ : Loc nD τ sig) → Buf (Elt Ideal) ℓ) (c : Dev nD) : FVec Ideal S64x24x24x768 .f32 :=
  m ((c : Thread nD τ).loc main_arg0)
/-- The depthwise weights on device `c`. -/
abbrev dwt (m : (ℓ : Loc nD τ sig) → Buf (Elt Ideal) ℓ) (c : Dev nD) : FVec Ideal S768x1x3x3 .f32 :=
  m ((c : Thread nD τ).loc main_arg1)
/-- The pointwise weights on device `c`. -/
abbrev pwt (m : (ℓ : Loc nD τ sig) → Buf (Elt Ideal) ℓ) (c : Dev nD) : FVec Ideal S9x768x1x1 .f32 :=
  m ((c : Thread nD τ).loc main_arg2)
/-- The bias on device `c`. -/
abbrev bias (m : (ℓ : Loc nD τ sig) → Buf (Elt Ideal) ℓ) (c : Dev nD) : FVec Ideal S9 .f32 :=
  m ((c : Thread nD τ).loc main_arg3)

/-- The combined weights over the arguments. -/
theorem wall_arg (m : (ℓ : Loc nD τ sig) → Buf (Elt Ideal) ℓ) (c : Dev nD) (d : Fin 768) (r k : Fin 9) :
    wall m c (ix2 d ⟨9 * r.val + k.val, by omega⟩)
      = (dwt m c (ix4 d 0 ⟨r.val / 3, by omega⟩ ⟨r.val % 3, by omega⟩)
          * pwt m c (ix4 k d 0 0) : EReal) := by
  unfold wall
  refine (wall_apply _ _ d _ (by dsimp only; omega)).trans ?_
  have hr : (⟨(9 * r.val + k.val) / 9, by omega⟩ : Fin 9) = r := Fin.ext (by dsimp only; omega)
  have hk : (⟨(9 * r.val + k.val) % 9, by omega⟩ : Fin 9) = k := Fin.ext (by dsimp only; omega)
  simp only [hr, hk]
  exact congrArg₂ (fun a b : EReal => a * b) (iblk1_apply m c _ d r) (iblk2_apply m c _ k d)

/-- The kernel's result at an index, over its arguments: the softmax of nine logits, each a sum over the nine taps of the
    bordered image against the product of the two weights, and the bias. -/
theorem value (m : (ℓ : Loc nD τ sig) → Buf (Elt Ideal) ℓ) (c : Dev nD) (n : Fin 64) (y w : Fin 24) (k : Fin 9) :
    Value.G4 m c (ix4 n y w k)
      = soft (fun k => (∑ r : Fin 9, ∑ d : Fin 768,
          border (fun a b => img m c (ix4 n a b d)) (r.val / 3 + y.val) (r.val % 3 + w.val)
            * (dwt m c (ix4 d 0 ⟨r.val / 3, by omega⟩ ⟨r.val % 3, by omega⟩)
              * pwt m c (ix4 k d 0 0)))
          + bias m c (ix1 k)) k := by
  have hN : n.val / 8 < cfg0.N := by rw [show cfg0.N = 8 from N_0]; omega
  rw [G4_apply m c n y w k hN, head_apply]
  congr 1
  funext k
  rw [iblk3_apply]
  congr 1
  refine Finset.sum_congr rfl fun r _ => ?_
  rw [border_sum]
  refine Finset.sum_congr rfl fun d _ => ?_
  rw [wall_arg]
  congr 2
  funext a b
  exact iblk0_apply m c _ _ a b d n (by dsimp only; omega)

end Cert.KernelIdeal.Head

end
-- ==== Proof.RefValue.lean ====
/-
  The reference at an index. Its array is the softmax of the logits of a depthwise convolution, each of the three a function
  of plain arrays; at an index the convolution is nine products of the padded image with the taps, the logits a sum over the
  channels, the softmax the usual quotient.
-/
module

public import proofs.«01_k».proof.Proof.Gen.ReferenceIdeal.Run
public import proofs.«01_k».proof.Proof.Shared
public import Idealize.ShloMosaic.Lib.Pointwise

@[expose] public section

set_option maxRecDepth 16384

noncomputable section

namespace Cert.ReferenceIdeal.Tap

open Idealize.ShloMosaic Idealize.ShloMosaic.TcCoe Idealize.ShloMosaic.Tactic Idealize.SL.Sem
open Cert.ReferenceIdeal Cert.ReferenceIdeal.Gen ConvHead

/-- The images with a border of zeros one pixel wide. -/
def paddedOf (x : FVec Ideal S64x24x24x768 .f32) : FVec Ideal S64x26x26x768 .f32 :=
  pad S64x26x26x768 ![0, 1, 1, 0] ![0, 1, 1, 0] ![0, 0, 0, 0] x (sitofp .f32 (constantI S_ 32 0#32))
    pads_S64x24x24x768_S64x26x26x768_000_110_110_000 h_S_

/-- One tap's product: the padded images shifted by `o`, times the weight at `q` of each channel. -/
def tapOf (o : Fin 4 → Nat) (ho : S64x26x26x768.Slices o S64x24x24x768) (q : Fin 4 → Nat) (hq : S768x1x3x3.Slices q S768x1x1x1)
    (xp : FVec Ideal S64x26x26x768 .f32) (dw : FVec Ideal S768x1x3x3 .f32) : FVec Ideal S64x24x24x768 .f32 :=
  mulf (extractStridedSlice S64x24x24x768 o xp ho)
    (broadcastInDim S64x24x24x768 ![0, 1, 2, 3] bcast_S1x1x1x768_S64x24x24x768_0_1_2_3
      (broadcastInDim S1x1x1x768 ![3] bcast_S768_S1x1x1x768_3
        (shapeCast S768 (extractStridedSlice S768x1x1x1 q dw hq) shapeCasts_S768x1x1x1_S768)))

/-- The depthwise convolution: the nine taps' products added up from zero. -/
def convOf (xp : FVec Ideal S64x26x26x768 .f32) (dw : FVec Ideal S768x1x3x3 .f32) : FVec Ideal S64x24x24x768 .f32 :=
  addf (addf (addf (addf (addf (addf (addf (addf (addf (broadcastInDim S64x24x24x768 ![] bcast_S_S64x24x24x768 (constant S_ .f32 0x00000000#32))
    (tapOf ![0, 0, 0, 0] slices_S64x26x26x768_S64x24x24x768_0_0_0_0 ![0, 0, 0, 0] slices_S768x1x3x3_S768x1x1x1_0_0_0_0 xp dw))
    (tapOf ![0, 0, 1, 0] slices_S64x26x26x768_S64x24x24x768_0_0_1_0 ![0, 0, 0, 1] slices_S768x1x3x3_S768x1x1x1_0_0_0_1 xp dw))
    (tapOf ![0, 0, 2, 0] slices_S64x26x26x768_S64x24x24x768_0_0_2_0 ![0, 0, 0, 2] slices_S768x1x3x3_S768x1x1x1_0_0_0_2 xp dw))
    (tapOf ![0, 1, 0, 0] slices_S64x26x26x768_S64x24x24x768_0_1_0_0 ![0, 0, 1, 0] slices_S768x1x3x3_S768x1x1x1_0_0_1_0 xp dw))
    (tapOf ![0, 1, 1, 0] slices_S64x26x26x768_S64x24x24x768_0_1_1_0 ![0, 0, 1, 1] slices_S768x1x3x3_S768x1x1x1_0_0_1_1 xp dw))
    (tapOf ![0, 1, 2, 0] slices_S64x26x26x768_S64x24x24x768_0_1_2_0 ![0, 0, 1, 2] slices_S768x1x3x3_S768x1x1x1_0_0_1_2 xp dw))
    (tapOf ![0, 2, 0, 0] slices_S64x26x26x768_S64x24x24x768_0_2_0_0 ![0, 0, 2, 0] slices_S768x1x3x3_S768x1x1x1_0_0_2_0 xp dw))
    (tapOf ![0, 2, 1, 0] slices_S64x26x26x768_S64x24x24x768_0_2_1_0 ![0, 0, 2, 1] slices_S768x1x3x3_S768x1x1x1_0_0_2_1 xp dw))
    (tapOf ![0, 2, 2, 0] slices_S64x26x26x768_S64x24x24x768_0_2_2_0 ![0, 0, 2, 2] slices_S768x1x3x3_S768x1x1x1_0_0_2_2 xp dw)

/-- The logits: each channel vector against the nine pointwise filters, plus the bias. -/
def logitsOf (h : FVec Ideal S64x24x24x768 .f32) (pw : FVec Ideal S9x768x1x1 .f32) (b : FVec Ideal S9 .f32) :
    FVec Ideal S64x24x24x9 .f32 :=
  addf (Host.dotGeneral dot_S64x24x24x768_S9x768_S64x24x24x9_3_1_012_0_n_n none h (shapeCast S9x768 pw shapeCasts_S9x768x1x1_S9x768))
    (broadcastInDim S64x24x24x9 ![0, 1, 2, 3] bcast_S1x1x1x9_S64x24x24x9_0_1_2_3 (broadcastInDim S1x1x1x9 ![3] bcast_S9_S1x1x1x9_3 b))

/-- The exponentials of the logits less their row's maximum. -/
def expOf (L : FVec Ideal S64x24x24x9 .f32) : FVec Ideal S64x24x24x9 .f32 :=
  Host.exp (subf L (broadcastInDim S64x24x24x9 ![0, 1, 2, 3] bcast_S64x24x24x1_S64x24x24x9_0_1_2_3
    (broadcastInDim S64x24x24x1 ![0, 1, 2] bcast_S64x24x24_S64x24x24x1_0_1_2
      (maximumf (broadcastInDim S64x24x24 ![] bcast_S_S64x24x24 (constant S_ .f32 0xFF800000#32))
        (Host.reduce FloatOps.maximumf L (constant S_ .f32 0xFF800000#32) reducesTo_S64x24x24x9_S64x24x24_d3 h_S_)))))

/-- The softmax of each row of logits. -/
def softOf (L : FVec Ideal S64x24x24x9 .f32) : FVec Ideal S64x24x24x9 .f32 :=
  Host.divf (expOf L) (broadcastInDim S64x24x24x9 ![0, 1, 2, 3] bcast_S64x24x24x1_S64x24x24x9_0_1_2_3
    (broadcastInDim S64x24x24x1 ![0, 1, 2] bcast_S64x24x24_S64x24x24x1_0_1_2
      (Host.reduceAdd (expOf L) (constant S_ .f32 0x00000000#32) reducesTo_S64x24x24x9_S64x24x24_d3 h_S_)))

/-- The reference's result is the softmax of the logits of the convolution of the padded images. -/
theorem res_eq (m : (ℓ : Loc nD τ sig) → Buf (Elt Ideal) ℓ) (c : Dev nD) :
    Value.res_main_v80 m c = softOf (logitsOf
      (convOf (paddedOf (m ((c.tc : Thread nD τ).loc main_arg0))) (m ((c.tc : Thread nD τ).loc main_arg1)))
      (m ((c.tc : Thread nD τ).loc main_arg2)) (m ((c.tc : Thread nD τ).loc main_arg3))) := by
  unfold Value.res_main_v80
  rfl

/-- The padded images at a pixel: the image with its border of zeros. -/
theorem padded_apply (x : FVec Ideal S64x24x24x768 .f32) (n : Fin 64) (y z : Fin 26) (d : Fin 768) :
    paddedOf x (ix4 n y z d) = border (fun a b => x (ix4 n a b d)) y.val z.val := by
  pointwise [paddedOf]
  unfold border
  refine dite_congr rfl (fun _ => rfl) fun _ => ?_
  simp [FloatOps.sitofp]

/-- The convolution at a pixel and a channel: nine products, row by row. -/
theorem conv_apply (x : FVec Ideal S64x24x24x768 .f32) (dw : FVec Ideal S768x1x3x3 .f32) (n : Fin 64) (y z : Fin 24)
    (d : Fin 768) :
    convOf (paddedOf x) dw (ix4 n y z d)
      = border (fun a b => x (ix4 n a b d)) (0 + y.val) (0 + z.val) * dw (ix4 d 0 0 0)
        + border (fun a b => x (ix4 n a b d)) (0 + y.val) (1 + z.val) * dw (ix4 d 0 0 1)
        + border (fun a b => x (ix4 n a b d)) (0 + y.val) (2 + z.val) * dw (ix4 d 0 0 2)
        + border (fun a b => x (ix4 n a b d)) (1 + y.val) (0 + z.val) * dw (ix4 d 0 1 0)
        + border (fun a b => x (ix4 n a b d)) (1 + y.val) (1 + z.val) * dw (ix4 d 0 1 1)
        + border (fun a b => x (ix4 n a b d)) (1 + y.val) (2 + z.val) * dw (ix4 d 0 1 2)
        + border (fun a b => x (ix4 n a b d)) (2 + y.val) (0 + z.val) * dw (ix4 d 0 2 0)
        + border (fun a b => x (ix4 n a b d)) (2 + y.val) (1 + z.val) * dw (ix4 d 0 2 1)
        + border (fun a b => x (ix4 n a b d)) (2 + y.val) (2 + z.val) * dw (ix4 d 0 2 2) := by
  pointwise [convOf, tapOf, padded_apply]

/-- The logits at a pixel and a class. -/
theorem logits_apply (h : FVec Ideal S64x24x24x768 .f32) (pw : FVec Ideal S9x768x1x1 .f32) (b : FVec Ideal S9 .f32)
    (n : Fin 64) (y z : Fin 24) (k : Fin 9) :
    logitsOf h pw b (ix4 n y z k) = (∑ d, h (ix4 n y z d) * pw (ix4 k d 0 0)) + b (ix1 k) := by
  pointwise [logitsOf]

/-- The softmax at a pixel and a class. -/
theorem soft_apply (L : FVec Ideal S64x24x24x9 .f32) (n : Fin 64) (y z : Fin 24) (k : Fin 9) :
    softOf L (ix4 n y z k) = soft (fun j => L (ix4 n y z j)) k := by
  have h := max_top fun j => L (ix4 n y z j)
  unfold top at h
  pointwise [softOf, expOf]
  simp only [h]
  rfl

/-- The reference at an index, over its arguments: the softmax of nine logits, each the channels' convolutions against the
    class's weights, and the bias. -/
theorem value (x : FVec Ideal S64x24x24x768 .f32) (dw : FVec Ideal S768x1x3x3 .f32) (pw : FVec Ideal S9x768x1x1 .f32)
    (b : FVec Ideal S9 .f32) (n : Fin 64) (y z : Fin 24) (k : Fin 9) :
    softOf (logitsOf (convOf (paddedOf x) dw) pw b) (ix4 n y z k)
      = soft (fun k => (∑ d,
          (border (fun a b => x (ix4 n a b d)) (0 + y.val) (0 + z.val) * dw (ix4 d 0 0 0)
            + border (fun a b => x (ix4 n a b d)) (0 + y.val) (1 + z.val) * dw (ix4 d 0 0 1)
            + border (fun a b => x (ix4 n a b d)) (0 + y.val) (2 + z.val) * dw (ix4 d 0 0 2)
            + border (fun a b => x (ix4 n a b d)) (1 + y.val) (0 + z.val) * dw (ix4 d 0 1 0)
            + border (fun a b => x (ix4 n a b d)) (1 + y.val) (1 + z.val) * dw (ix4 d 0 1 1)
            + border (fun a b => x (ix4 n a b d)) (1 + y.val) (2 + z.val) * dw (ix4 d 0 1 2)
            + border (fun a b => x (ix4 n a b d)) (2 + y.val) (0 + z.val) * dw (ix4 d 0 2 0)
            + border (fun a b => x (ix4 n a b d)) (2 + y.val) (1 + z.val) * dw (ix4 d 0 2 1)
            + border (fun a b => x (ix4 n a b d)) (2 + y.val) (2 + z.val) * dw (ix4 d 0 2 2)) * pw (ix4 k d 0 0)) + b (ix1 k)) k := by
  rw [soft_apply]
  congr 1
  funext j
  rw [logits_apply]
  congr 1
  exact Finset.sum_congr rfl fun d _ => by rw [conv_apply]

end Cert.ReferenceIdeal.Tap

end
-- ==== Proof.Finite.lean ====
/-
  The precondition read: where it is all ones, every element of the image and of the two convolutions' weights is a real
  number.
-/
module

public import proofs.«01_k».proof.Pre_finite
public import proofs.«01_k».proof.Proof.Shared

@[expose] public section

set_option maxRecDepth 16384

noncomputable section

namespace Cert.Pre_finite

open Idealize.ShloMosaic ConvHead

/-- The shape side conditions of the predicate. -/
theorem facts : Facts where
  bcast_S_S64x24x24x768 := by decide
  bcast_S_S768x1x3x3 := by decide
  bcast_S_S9x768x1x1 := by decide

/-- The word `0x7F800000` is plus infinity. -/
theorem ofBits_inf : Ideal.ofBits .f32 0x7F800000#32 = ⊤ := by
  simp [Ideal.ofBits, Ideal.ieee]

/-- One comparison read: an element whose absolute value compares below plus infinity is a real number. -/
theorem real_of_word (x : EReal)
    (h : FloatOps.cmpf (F := Ideal) (φ := .f32) .olt (FloatOps.absf (F := Ideal) (φ := .f32) x) (Ideal.ofBits .f32 0x7F800000#32) = 1#1) :
    ∃ r : ℝ, x = r := by
  refine real_of_max_lt x ?_
  rw [ofBits_inf] at h
  by_contra hn
  simp [FloatOps.cmpf, FloatOps.absf, Ideal.cmp, hn] at h

variable [Facts]

/-- Every element of the image is a real number. -/
theorem img_real (x : FVec Ideal S64x24x24x768 .f32) (dw : FVec Ideal S768x1x3x3 .f32) (pw : FVec Ideal S9x768x1x1 .f32)
    (b : FVec Ideal S9 .f32) (h : (fn (F := Ideal) x dw pw b).1 = fun _ => 1#1) (i : S64x24x24x768.Idx) :
    ∃ r : ℝ, x i = r :=
  real_of_word (x i) (congrFun h i)

/-- Every depthwise weight is a real number. -/
theorem dw_real (x : FVec Ideal S64x24x24x768 .f32) (dw : FVec Ideal S768x1x3x3 .f32) (pw : FVec Ideal S9x768x1x1 .f32)
    (b : FVec Ideal S9 .f32) (h : (fn (F := Ideal) x dw pw b).2.1 = fun _ => 1#1) (i : S768x1x3x3.Idx) :
    ∃ r : ℝ, dw i = r :=
  real_of_word (dw i) (congrFun h i)

/-- Every pointwise weight is a real number. -/
theorem pw_real (x : FVec Ideal S64x24x24x768 .f32) (dw : FVec Ideal S768x1x3x3 .f32) (pw : FVec Ideal S9x768x1x1 .f32)
    (b : FVec Ideal S9 .f32) (h : (fn (F := Ideal) x dw pw b).2.2 = fun _ => 1#1) (i : S9x768x1x1.Idx) :
    ∃ r : ℝ, pw i = r :=
  real_of_word (pw i) (congrFun h i)

end Cert.Pre_finite

end
-- ==== Proof.Tie.lean ====
/-
  The two programs' results are one array: at every index both are the softmax of nine logits, and the two logits are one sum
  taken in two orders, over finite images and weights.
-/
module

public import proofs.«01_k».proof.Proof.Whole
public import proofs.«01_k».proof.Proof.RefValue
public import proofs.«01_k».proof.Proof.Finite

@[expose] public section

set_option maxRecDepth 16384

noncomputable section

namespace Cert.Tie

open Idealize.ShloMosaic Idealize.ShloMosaic.TcCoe Idealize.SL.Sem ConvHead

/-- The reference's result over the kernel's arguments is the kernel's array, where the image and the weights are finite. -/
theorem result_eq (m : (ℓ : Loc Cert.KernelIdeal.nD Cert.KernelIdeal.τ Cert.KernelIdeal.sig) → Buf (Elt Ideal) ℓ)
    (c : Dev Cert.KernelIdeal.nD)
    (hx : ∀ i, ∃ r : ℝ, KernelIdeal.Head.img m c i = (r : EReal)) (hd : ∀ i, ∃ r : ℝ, KernelIdeal.Head.dwt m c i = (r : EReal))
    (hp : ∀ i, ∃ r : ℝ, KernelIdeal.Head.pwt m c i = (r : EReal)) :
    ReferenceIdeal.Tap.softOf (ReferenceIdeal.Tap.logitsOf (ReferenceIdeal.Tap.convOf
        (ReferenceIdeal.Tap.paddedOf (KernelIdeal.Head.img m c)) (KernelIdeal.Head.dwt m c))
        (KernelIdeal.Head.pwt m c) (KernelIdeal.Head.bias m c))
      = (KernelIdeal.Value.G4 m c : FVec Ideal ReferenceIdeal.S64x24x24x9 .f32) := by
  funext i
  idx_vars i
  rw [ReferenceIdeal.Tap.value]
  refine Eq.trans ?_ (KernelIdeal.Head.value m c i0 i1 i2 i3).symm
  congr 1
  funext j
  congr 1
  exact (logit_eq
    (fun r d => border (fun a b => KernelIdeal.Head.img m c (ix4 i0 a b d)) (r.val / 3 + i1.val) (r.val % 3 + i2.val))
    (fun r d => KernelIdeal.Head.dwt m c (ix4 d 0 ⟨r.val / 3, by omega⟩ ⟨r.val % 3, by omega⟩))
    (fun d => KernelIdeal.Head.pwt m c (ix4 j d 0 0))
    (fun r d => border_finite _ (fun a b => hx _) _ _) (fun r d => hd _) (fun d => hp _)).symm

end Cert.Tie

end
-- ==== Proof.lean ====
/-
  The proof of `Cert.Claim`: the frames from the generated runs, and the value claim from the kernel's array and the
  reference's result read at an index (Proof/Whole.lean, Proof/RefValue.lean) and the equation between them (Proof/Tie.lean).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Tie
public import Idealize.ShloMosaic.Adequacy
public import Idealize.ShloMosaic.Init
public import Idealize.ShloMosaic.Lib.Quiescent

@[expose] public section

noncomputable section

namespace Cert.Proof

open Idealize.ShloMosaic Idealize.SL.Sem

/-- The reference declares no semaphore, so its run ends quiescent. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments of which the precondition holds, the kernel and the reference end with one result array. -/
theorem algebraic_pre_finite : @algebraic_KernelIdeal_ReferenceIdeal_pre_finite Cert.KernelIdeal.Gen.facts Cert.ReferenceIdeal.Gen.facts
    Cert.Pre_finite.facts := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3⟩ := hagree c
  obtain ⟨p0, p1, p2⟩ := hpre c
  refine (Cert.ReferenceIdeal.Tap.res_eq m' c).trans ?_
  rw [a0, a1, a2, a3]
  letI := Cert.Pre_finite.facts
  exact Cert.Tie.result_eq m c (Cert.Pre_finite.img_real _ _ _ _ p0) (Cert.Pre_finite.dw_real _ _ _ _ p1)
    (Cert.Pre_finite.pw_real _ _ _ _ p2)

/-- Everything the statement states. -/
theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  (trivial : preserves_Kernel_KernelIdeal), algebraic_pre_finite⟩

end Cert.Proof

end
